-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x64x384x384 : Shape := ⟨4, ![3, 64, 384, 384]⟩
abbrev S73728x384 : Shape := ⟨2, ![73728, 384]⟩
abbrev S18432x384 : Shape := ⟨2, ![18432, 384]⟩
abbrev S96x384 : Shape := ⟨2, ![96, 384]⟩
abbrev S_ : Shape := ⟨0, ![]⟩
abbrev S3x16x384x384 : Shape := ⟨4, ![3, 16, 384, 384]⟩

abbrev nBuf : Table → Nat
  | .hbm => 4
  | .local .scVector .vmem => 2
  | _ => 0

abbrev bufTy : (tb : Table) → Fin (nBuf tb) → BufTy
  | .hbm, ⟨0, _⟩ => ⟨S3x64x384x384, .f32⟩
  | .hbm, ⟨1, _⟩ => ⟨S73728x384, .f32⟩
  | .hbm, ⟨2, _⟩ => ⟨S18432x384, .f32⟩
  | .hbm, ⟨3, _⟩ => ⟨S3x16x384x384, .f32⟩
  | .local .scVector .vmem, ⟨0, _⟩ => ⟨S96x384, .f32⟩
  | .local .scVector .vmem, ⟨1, _⟩ => ⟨S96x384, .f32⟩
  | _, _ => ⟨S3x64x384x384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let c0_i32_10 : BitVec 32 := 0#32
  let v31 : BitVec 1 := Scalar.cmpi .sgt v19 c0_i32_10
  let v32 : BitVec 32 := Scalar.extui v31
  let c0_i32_11 : BitVec 32 := 0#32
  let v33 : BitVec 1 := Scalar.cmpi .slt v19 c0_i32_11
  let v34 : BitVec 32 := Scalar.extui v33
  let v35 : BitVec 32 := Scalar.subi v32 v34
  let c16_i32 : BitVec 32 := 16#32
  let c0_i32_12 : BitVec 32 := 0#32
  let v36 : BitVec 1 := Scalar.cmpi .sgt c16_i32 c0_i32_12
  let v37 : BitVec 32 := Scalar.extui v36
  let c0_i32_13 : BitVec 32 := 0#32
  let v38 : BitVec 1 := Scalar.cmpi .slt c16_i32 c0_i32_13
  let v39 : BitVec 32 := Scalar.extui v38
  let v40 : BitVec 32 := Scalar.subi v37 v39
  let v41 : BitVec 1 := Scalar.cmpi .ne v35 v40
  let v42 : BitVec 32 := Scalar.remsi v19 c16_i32
  let c0_i32_14 : BitVec 32 := 0#32
  let v43 : BitVec 1 := Scalar.cmpi .ne v42 c0_i32_14
  let v44 : BitVec 1 := Scalar.andi v41 v43
  let v30 : BitVec 32 := Scalar.divsi v19 c16_i32
  let c1_i32_15 : BitVec 32 := 1#32
  let v45 : BitVec 32 := Scalar.subi v30 c1_i32_15
  let v46 : BitVec 32 := Scalar.select v44 v45 v30
  let c64_i32 : BitVec 32 := 64#32
  let v47 : BitVec 32 := Scalar.muli v46 c64_i32
  let c21_i32 : BitVec 32 := 21#32
  let c16_i32_16 : BitVec 32 := 16#32
  let c0_i32_17 : BitVec 32 := 0#32
  let v48 : BitVec 1 := Scalar.cmpi .eq c16_i32_16 c0_i32_17
  let c1_i32_18 : BitVec 32 := 1#32
  let v49 : BitVec 32 := Scalar.select v48 c1_i32_18 c16_i32_16
  let v50 : BitVec 32 := Scalar.remsi v19 v49
  let c0_i32_20 : BitVec 32 := 0#32
  let v52 : BitVec 1 := Scalar.cmpi .slt v50 c0_i32_20
  let c0_i32_21 : BitVec 32 := 0#32
  let v53 : BitVec 1 := Scalar.cmpi .slt v49 c0_i32_21
  let v54 : BitVec 1 := Scalar.xori v52 v53
  let c0_i32_19 : BitVec 32 := 0#32
  let v51 : BitVec 1 := Scalar.cmpi .ne v50 c0_i32_19
  let v55 : BitVec 1 := Scalar.andi v54 v51
  let v56 : BitVec 32 := Scalar.addi v50 v49
  let v57 : BitVec 32 := Scalar.select v55 v56 v50
  let v58 : BitVec 32 := Scalar.muli c21_i32 v57
  let c0_i32_22 : BitVec 32 := 0#32
  let v60 : BitVec 1 := Scalar.cmpi .sgt v58 c0_i32_22
  let v61 : BitVec 32 := Scalar.extui v60
  let c0_i32_23 : BitVec 32 := 0#32
  let v62 : BitVec 1 := Scalar.cmpi .slt v58 c0_i32_23
  let v63 : BitVec 32 := Scalar.extui v62
  let v64 : BitVec 32 := Scalar.subi v61 v63
  let c5_i32 : BitVec 32 := 5#32
  let c0_i32_24 : BitVec 32 := 0#32
  let v65 : BitVec 1 := Scalar.cmpi .sgt c5_i32 c0_i32_24
  let v66 : BitVec 32 := Scalar.extui v65
  let c0_i32_25 : BitVec 32 := 0#32
  let v67 : BitVec 1 := Scalar.cmpi .slt c5_i32 c0_i32_25
  let v68 : BitVec 32 := Scalar.extui v67
  let v69 : BitVec 32 := Scalar.subi v66 v68
  let v70 : BitVec 1 := Scalar.cmpi .ne v64 v69
  let v71 : BitVec 32 := Scalar.remsi v58 c5_i32
  let c0_i32_26 : BitVec 32 := 0#32
  let v72 : BitVec 1 := Scalar.cmpi .ne v71 c0_i32_26
  let v73 : BitVec 1 := Scalar.andi v70 v72
  let v59 : BitVec 32 := Scalar.divsi v58 c5_i32
  let c1_i32_27 : BitVec 32 := 1#32
  let v74 : BitVec 32 := Scalar.subi v59 c1_i32_27
  let v75 : BitVec 32 := Scalar.select v73 v74 v59
  let v76 : BitVec 32 := Scalar.addi v47 v75
  let c384_i32 : BitVec 32 := 384#32
  let v77 : BitVec 32 := Scalar.muli v76 c384_i32
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c96_i32 : BitVec 32 := 96#32
  let v78 : BitVec 32 := Scalar.muli v29 c96_i32
  let v79 : BitVec 32 := Scalar.addi v77 v78
  let c0_i32_28 : BitVec 32 := 0#32
  ![v79.toNat, 0]
def k0_off2 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v82 : BitVec 32 := Scalar.addi v2 c0_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c4_i32_31 : BitVec 32 := 4#32
  let c0_i32_34 : BitVec 32 := 0#32
  let v89 : BitVec 1 := Scalar.cmpi .sgt c4_i32_31 c0_i32_34
  let v90 : BitVec 32 := Scalar.extui v89
  let c0_i32_35 : BitVec 32 := 0#32
  let v91 : BitVec 1 := Scalar.cmpi .slt c4_i32_31 c0_i32_35
  let v92 : BitVec 32 := Scalar.extui v91
  let v93 : BitVec 32 := Scalar.subi v90 v92
  let v94 : BitVec 1 := Scalar.cmpi .ne v88 v93
  let v95 : BitVec 32 := Scalar.remsi v82 c4_i32_31
  let c0_i32_36 : BitVec 32 := 0#32
  let v96 : BitVec 1 := Scalar.cmpi .ne v95 c0_i32_36
  let v97 : BitVec 1 := Scalar.andi v94 v96
  let v83 : BitVec 32 := Scalar.divsi v82 c4_i32_31
  let c1_i32_37 : BitVec 32 := 1#32
  let v98 : BitVec 32 := Scalar.subi v83 c1_i32_37
  let v99 : BitVec 32 := Scalar.select v97 v98 v83
  let c0_i32_45 : BitVec 32 := 0#32
  let v111 : BitVec 1 := Scalar.cmpi .sgt v99 c0_i32_45
  let v112 : BitVec 32 := Scalar.extui v111
  let c0_i32_46 : BitVec 32 := 0#32
  let v113 : BitVec 1 := Scalar.cmpi .slt v99 c0_i32_46
  let v114 : BitVec 32 := Scalar.extui v113
  let v115 : BitVec 32 := Scalar.subi v112 v114
  let c16_i32_44 : BitVec 32 := 16#32
  let c0_i32_47 : BitVec 32 := 0#32
  let v116 : BitVec 1 := Scalar.cmpi .sgt c16_i32_44 c0_i32_47
  let v117 : BitVec 32 := Scalar.extui v116
  let c0_i32_48 : BitVec 32 := 0#32
  let v118 : BitVec 1 := Scalar.cmpi .slt c16_i32_44 c0_i32_48
  let v119 : BitVec 32 := Scalar.extui v118
  let v120 : BitVec 32 := Scalar.subi v117 v119
  let v121 : BitVec 1 := Scalar.cmpi .ne v115 v120
  let v122 : BitVec 32 := Scalar.remsi v99 c16_i32_44
  let c0_i32_49 : BitVec 32 := 0#32
  let v123 : BitVec 1 := Scalar.cmpi .ne v122 c0_i32_49
  let v124 : BitVec 1 := Scalar.andi v121 v123
  let v110 : BitVec 32 := Scalar.divsi v99 c16_i32_44
  let c1_i32_50 : BitVec 32 := 1#32
  let v125 : BitVec 32 := Scalar.subi v110 c1_i32_50
  let v126 : BitVec 32 := Scalar.select v124 v125 v110
  let c64_i32_51 : BitVec 32 := 64#32
  let v127 : BitVec 32 := Scalar.muli v126 c64_i32_51
  let c21_i32_58 : BitVec 32 := 21#32
  let c16_i32_52 : BitVec 32 := 16#32
  let c0_i32_53 : BitVec 32 := 0#32
  let v128 : BitVec 1 := Scalar.cmpi .eq c16_i32_52 c0_i32_53
  let c1_i32_54 : BitVec 32 := 1#32
  let v129 : BitVec 32 := Scalar.select v128 c1_i32_54 c16_i32_52
  let v130 : BitVec 32 := Scalar.remsi v99 v129
  let c0_i32_56 : BitVec 32 := 0#32
  let v132 : BitVec 1 := Scalar.cmpi .slt v130 c0_i32_56
  let c0_i32_57 : BitVec 32 := 0#32
  let v133 : BitVec 1 := Scalar.cmpi .slt v129 c0_i32_57
  let v134 : BitVec 1 := Scalar.xori v132 v133
  let c0_i32_55 : BitVec 32 := 0#32
  let v131 : BitVec 1 := Scalar.cmpi .ne v130 c0_i32_55
  let v135 : BitVec 1 := Scalar.andi v134 v131
  let v136 : BitVec 32 := Scalar.addi v130 v129
  let v137 : BitVec 32 := Scalar.select v135 v136 v130
  let v138 : BitVec 32 := Scalar.muli c21_i32_58 v137
  let c0_i32_60 : BitVec 32 := 0#32
  let v140 : BitVec 1 := Scalar.cmpi .sgt v138 c0_i32_60
  let v141 : BitVec 32 := Scalar.extui v140
  let c0_i32_61 : BitVec 32 := 0#32
  let v142 : BitVec 1 := Scalar.cmpi .slt v138 c0_i32_61
  let v143 : BitVec 32 := Scalar.extui v142
  let v144 : BitVec 32 := Scalar.subi v141 v143
  let c5_i32_59 : BitVec 32 := 5#32
  let c0_i32_62 : BitVec 32 := 0#32
  let v145 : BitVec 1 := Scalar.cmpi .sgt c5_i32_59 c0_i32_62
  let v146 : BitVec 32 := Scalar.extui v145
  let c0_i32_63 : BitVec 32 := 0#32
  let v147 : BitVec 1 := Scalar.cmpi .slt c5_i32_59 c0_i32_63
  let v148 : BitVec 32 := Scalar.extui v147
  let v149 : BitVec 32 := Scalar.subi v146 v148
  let v150 : BitVec 1 := Scalar.cmpi .ne v144 v149
  let v151 : BitVec 32 := Scalar.remsi v138 c5_i32_59
  let c0_i32_64 : BitVec 32 := 0#32
  let v152 : BitVec 1 := Scalar.cmpi .ne v151 c0_i32_64
  let v153 : BitVec 1 := Scalar.andi v150 v152
  let v139 : BitVec 32 := Scalar.divsi v138 c5_i32_59
  let c1_i32_65 : BitVec 32 := 1#32
  let v154 : BitVec 32 := Scalar.subi v139 c1_i32_65
  let v155 : BitVec 32 := Scalar.select v153 v154 v139
  let v156 : BitVec 32 := Scalar.addi v127 v155
  let c384_i32_66 : BitVec 32 := 384#32
  let v157 : BitVec 32 := Scalar.muli v156 c384_i32_66
  let c4_i32_38 : BitVec 32 := 4#32
  let c0_i32_39 : BitVec 32 := 0#32
  let v100 : BitVec 1 := Scalar.cmpi .eq c4_i32_38 c0_i32_39
  let c1_i32_40 : BitVec 32 := 1#32
  let v101 : BitVec 32 := Scalar.select v100 c1_i32_40 c4_i32_38
  let v102 : BitVec 32 := Scalar.remsi v82 v101
  let c0_i32_42 : BitVec 32 := 0#32
  let v104 : BitVec 1 := Scalar.cmpi .slt v102 c0_i32_42
  let c0_i32_43 : BitVec 32 := 0#32
  let v105 : BitVec 1 := Scalar.cmpi .slt v101 c0_i32_43
  let v106 : BitVec 1 := Scalar.xori v104 v105
  let c0_i32_41 : BitVec 32 := 0#32
  let v103 : BitVec 1 := Scalar.cmpi .ne v102 c0_i32_41
  let v107 : BitVec 1 := Scalar.andi v106 v103
  let v108 : BitVec 32 := Scalar.addi v102 v101
  let v109 : BitVec 32 := Scalar.select v107 v108 v102
  let c96_i32_67 : BitVec 32 := 96#32
  let v158 : BitVec 32 := Scalar.muli v109 c96_i32_67
  let v159 : BitVec 32 := Scalar.addi v157 v158
  let c0_i32_68 : BitVec 32 := 0#32
  ![v159.toNat, 0]
def k0_off3 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v82 : BitVec 32 := Scalar.addi v2 c0_i32_30
  let c96_i32_70 : BitVec 32 := 96#32
  let v162 : BitVec 32 := Scalar.muli v82 c96_i32_70
  let c0_i32_71 : BitVec 32 := 0#32
  ![v162.toNat, 0]
def k0_off4 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v82 : BitVec 32 := Scalar.addi v2 c0_i32_30
  let c1_i32_73 : BitVec 32 := 1#32
  let v165 : BitVec 32 := Scalar.addi v82 c1_i32_73
  let c0_i32_75 : BitVec 32 := 0#32
  let v167 : BitVec 1 := Scalar.cmpi .sgt v165 c0_i32_75
  let v168 : BitVec 32 := Scalar.extui v167
  let c0_i32_76 : BitVec 32 := 0#32
  let v169 : BitVec 1 := Scalar.cmpi .slt v165 c0_i32_76
  let v170 : BitVec 32 := Scalar.extui v169
  let v171 : BitVec 32 := Scalar.subi v168 v170
  let c4_i32_74 : BitVec 32 := 4#32
  let c0_i32_77 : BitVec 32 := 0#32
  let v172 : BitVec 1 := Scalar.cmpi .sgt c4_i32_74 c0_i32_77
  let v173 : BitVec 32 := Scalar.extui v172
  let c0_i32_78 : BitVec 32 := 0#32
  let v174 : BitVec 1 := Scalar.cmpi .slt c4_i32_74 c0_i32_78
  let v175 : BitVec 32 := Scalar.extui v174
  let v176 : BitVec 32 := Scalar.subi v173 v175
  let v177 : BitVec 1 := Scalar.cmpi .ne v171 v176
  let v178 : BitVec 32 := Scalar.remsi v165 c4_i32_74
  let c0_i32_79 : BitVec 32 := 0#32
  let v179 : BitVec 1 := Scalar.cmpi .ne v178 c0_i32_79
  let v180 : BitVec 1 := Scalar.andi v177 v179
  let v166 : BitVec 32 := Scalar.divsi v165 c4_i32_74
  let c1_i32_80 : BitVec 32 := 1#32
  let v181 : BitVec 32 := Scalar.subi v166 c1_i32_80
  let v182 : BitVec 32 := Scalar.select v180 v181 v166
  let c0_i32_88 : BitVec 32 := 0#32
  let v194 : BitVec 1 := Scalar.cmpi .sgt v182 c0_i32_88
  let v195 : BitVec 32 := Scalar.extui v194
  let c0_i32_89 : BitVec 32 := 0#32
  let v196 : BitVec 1 := Scalar.cmpi .slt v182 c0_i32_89
  let v197 : BitVec 32 := Scalar.extui v196
  let v198 : BitVec 32 := Scalar.subi v195 v197
  let c16_i32_87 : BitVec 32 := 16#32
  let c0_i32_90 : BitVec 32 := 0#32
  let v199 : BitVec 1 := Scalar.cmpi .sgt c16_i32_87 c0_i32_90
  let v200 : BitVec 32 := Scalar.extui v199
  let c0_i32_91 : BitVec 32 := 0#32
  let v201 : BitVec 1 := Scalar.cmpi .slt c16_i32_87 c0_i32_91
  let v202 : BitVec 32 := Scalar.extui v201
  let v203 : BitVec 32 := Scalar.subi v200 v202
  let v204 : BitVec 1 := Scalar.cmpi .ne v198 v203
  let v205 : BitVec 32 := Scalar.remsi v182 c16_i32_87
  let c0_i32_92 : BitVec 32 := 0#32
  let v206 : BitVec 1 := Scalar.cmpi .ne v205 c0_i32_92
  let v207 : BitVec 1 := Scalar.andi v204 v206
  let v193 : BitVec 32 := Scalar.divsi v182 c16_i32_87
  let c1_i32_93 : BitVec 32 := 1#32
  let v208 : BitVec 32 := Scalar.subi v193 c1_i32_93
  let v209 : BitVec 32 := Scalar.select v207 v208 v193
  let c64_i32_94 : BitVec 32 := 64#32
  let v210 : BitVec 32 := Scalar.muli v209 c64_i32_94
  let c21_i32_101 : BitVec 32 := 21#32
  let c16_i32_95 : BitVec 32 := 16#32
  let c0_i32_96 : BitVec 32 := 0#32
  let v211 : BitVec 1 := Scalar.cmpi .eq c16_i32_95 c0_i32_96
  let c1_i32_97 : BitVec 32 := 1#32
  let v212 : BitVec 32 := Scalar.select v211 c1_i32_97 c16_i32_95
  let v213 : BitVec 32 := Scalar.remsi v182 v212
  let c0_i32_99 : BitVec 32 := 0#32
  let v215 : BitVec 1 := Scalar.cmpi .slt v213 c0_i32_99
  let c0_i32_100 : BitVec 32 := 0#32
  let v216 : BitVec 1 := Scalar.cmpi .slt v212 c0_i32_100
  let v217 : BitVec 1 := Scalar.xori v215 v216
  let c0_i32_98 : BitVec 32 := 0#32
  let v214 : BitVec 1 := Scalar.cmpi .ne v213 c0_i32_98
  let v218 : BitVec 1 := Scalar.andi v217 v214
  let v219 : BitVec 32 := Scalar.addi v213 v212
  let v220 : BitVec 32 := Scalar.select v218 v219 v213
  let v221 : BitVec 32 := Scalar.muli c21_i32_101 v220
  let c0_i32_103 : BitVec 32 := 0#32
  let v223 : BitVec 1 := Scalar.cmpi .sgt v221 c0_i32_103
  let v224 : BitVec 32 := Scalar.extui v223
  let c0_i32_104 : BitVec 32 := 0#32
  let v225 : BitVec 1 := Scalar.cmpi .slt v221 c0_i32_104
  let v226 : BitVec 32 := Scalar.extui v225
  let v227 : BitVec 32 := Scalar.subi v224 v226
  let c5_i32_102 : BitVec 32 := 5#32
  let c0_i32_105 : BitVec 32 := 0#32
  let v228 : BitVec 1 := Scalar.cmpi .sgt c5_i32_102 c0_i32_105
  let v229 : BitVec 32 := Scalar.extui v228
  let c0_i32_106 : BitVec 32 := 0#32
  let v230 : BitVec 1 := Scalar.cmpi .slt c5_i32_102 c0_i32_106
  let v231 : BitVec 32 := Scalar.extui v230
  let v232 : BitVec 32 := Scalar.subi v229 v231
  let v233 : BitVec 1 := Scalar.cmpi .ne v227 v232
  let v234 : BitVec 32 := Scalar.remsi v221 c5_i32_102
  let c0_i32_107 : BitVec 32 := 0#32
  let v235 : BitVec 1 := Scalar.cmpi .ne v234 c0_i32_107
  let v236 : BitVec 1 := Scalar.andi v233 v235
  let v222 : BitVec 32 := Scalar.divsi v221 c5_i32_102
  let c1_i32_108 : BitVec 32 := 1#32
  let v237 : BitVec 32 := Scalar.subi v222 c1_i32_108
  let v238 : BitVec 32 := Scalar.select v236 v237 v222
  let v239 : BitVec 32 := Scalar.addi v210 v238
  let c384_i32_109 : BitVec 32 := 384#32
  let v240 : BitVec 32 := Scalar.muli v239 c384_i32_109
  let c4_i32_81 : BitVec 32 := 4#32
  let c0_i32_82 : BitVec 32 := 0#32
  let v183 : BitVec 1 := Scalar.cmpi .eq c4_i32_81 c0_i32_82
  let c1_i32_83 : BitVec 32 := 1#32
  let v184 : BitVec 32 := Scalar.select v183 c1_i32_83 c4_i32_81
  let v185 : BitVec 32 := Scalar.remsi v165 v184
  let c0_i32_85 : BitVec 32 := 0#32
  let v187 : BitVec 1 := Scalar.cmpi .slt v185 c0_i32_85
  let c0_i32_86 : BitVec 32 := 0#32
  let v188 : BitVec 1 := Scalar.cmpi .slt v184 c0_i32_86
  let v189 : BitVec 1 := Scalar.xori v187 v188
  let c0_i32_84 : BitVec 32 := 0#32
  let v186 : BitVec 1 := Scalar.cmpi .ne v185 c0_i32_84
  let v190 : BitVec 1 := Scalar.andi v189 v186
  let v191 : BitVec 32 := Scalar.addi v185 v184
  let v192 : BitVec 32 := Scalar.select v190 v191 v185
  let c96_i32_110 : BitVec 32 := 96#32
  let v241 : BitVec 32 := Scalar.muli v192 c96_i32_110
  let v242 : BitVec 32 := Scalar.addi v240 v241
  let c0_i32_111 : BitVec 32 := 0#32
  ![v242.toNat, 0]
def k0_off5 (i : grid0.Coords) (c1_i32_113 : BitVec 32) (c1_i32_156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v245 : BitVec 32 := Scalar.addi v2 c1_i32_113
  let v328 : BitVec 32 := Scalar.subi v245 c1_i32_156
  let c96_i32_157 : BitVec 32 := 96#32
  let v329 : BitVec 32 := Scalar.muli v328 c96_i32_157
  let c0_i32_158 : BitVec 32 := 0#32
  ![v329.toNat, 0]
def k0_off5_at (r : Fin 6) : BitVec 32 × BitVec 32 :=
  if r.val < 3 then
    if r.val < 1 then
      (1#32, 1#32)
    else
      if r.val < 2 then
        (2#32, 1#32)
      else
        (3#32, 1#32)
  else
    if r.val < 4 then
      (4#32, 1#32)
    else
      if r.val < 5 then
        (6#32, 2#32)
      else
        (6#32, 1#32)
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x64x384x384 : Shape := ⟨4, ![3, 64, 384, 384]⟩
abbrev S_ : Shape := ⟨0, ![]⟩
abbrev S15 : Shape := ⟨1, ![15]⟩
abbrev S1 : Shape := ⟨1, ![1]⟩
abbrev S16 : Shape := ⟨1, ![16]⟩
abbrev S16x1 : Shape := ⟨2, ![16, 1]⟩
abbrev S1x1 : Shape := ⟨2, ![1, 1]⟩
abbrev S3x16x384x384 : Shape := ⟨4, ![3, 16, 384, 384]⟩

abbrev nBuf : Space → Nat
  | .hbm => 48
  | .vmem => 0
  | .smem => 0
  | _ => 0

abbrev bufTy : (tb : Table) → Fin (tcTables nBuf tb) → BufTy
  | .hbm, ⟨0, _⟩ => ⟨S3x64x384x384, .f32⟩
  | .hbm, ⟨1, _⟩ => ⟨S_, .i32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S15, .f32⟩
  | .hbm, ⟨9, _⟩ => ⟨S_, .f32⟩
  | .hbm, ⟨10, _⟩ => ⟨S15, .f32⟩
  | .hbm, ⟨11, _⟩ => ⟨S15, .f32⟩
  | .hbm, ⟨12, _⟩ => ⟨S1, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S1, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S16, .f32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S1, .i32⟩
  | .hbm, ⟨34, _⟩ => ⟨S_, .i32⟩
  | .hbm, ⟨35, _⟩ => ⟨S16x1, .i32⟩
  | .hbm, ⟨36, _⟩ => ⟨S16x1, .i1⟩
  | .hbm, ⟨37, _⟩ => ⟨S1x1, .i32⟩
  | .hbm, ⟨38, _⟩ => ⟨S16x1, .i32⟩
  | .hbm, ⟨39, _⟩ => ⟨S16x1, .i1⟩
  | .hbm, ⟨40, _⟩ => ⟨S16x1, .i1⟩
  | .hbm, ⟨41, _⟩ => ⟨S_, .i1⟩
  | .hbm, ⟨42, _⟩ => ⟨S16, .i1⟩
  | .hbm, ⟨43, _⟩ => ⟨S3x16x384x384, .f32⟩
  | .hbm, ⟨44, _⟩ => ⟨S3x16x384x384, .i1⟩
  | .hbm, ⟨45, _⟩ => ⟨S_, .f32⟩
  | .hbm, ⟨46, _⟩ => ⟨S3x16x384x384, .f32⟩
  | .hbm, ⟨47, _⟩ => ⟨S3x16x384x384, .f32⟩
  | _, _ => ⟨S3x64x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v2 : Ref sig .tc := ⟨.hbm, 47, rfl⟩

abbrev nD : Nat := 1
abbrev τ : Topo := Topo.v7x

variable {F : FTy → Type} [FloatOps F]
-- ==== Proof.Rows.lean ====
/-
  The kernel's row arithmetic. The frames are read as a table of 73728 rows of 384 numbers, 384 rows to a frame and 64
  frames to an image sequence; the slow result is written as a table of 18432 such rows, 384 to a frame and 16 frames to a
  sequence. Slow frame `k` of a sequence is frame `⌊21 k / 5⌋` of it, so each row of the result is one row of the table:
  `srcRow` says which. A worker copies six blocks of 96 rows; `off1_eq` and `off4_eq` say where the kernel's own
  index computation puts the source of each, `off3_eq` where it puts the target.
-/
module

public import proofs.«01_k».proof.Proof.Gen.KernelIdeal

@[expose] public section

noncomputable section

namespace Cert.Proof

open Cert.KernelIdeal Cert.KernelIdeal.Gen
open Idealize.ShloMosaic

/-- The table row that row `r` of the slow result is a copy of: sequence `r / 6144`, frame `⌊21 k / 5⌋` for the slow
    frame `k = r / 384 mod 16`, the same row within the frame. -/
def srcRow (r : ℕ) : ℕ := r / 6144 * 24576 + 21 * (r / 384 % 16) / 5 * 384 + r % 384

/-- A row of the result has its source row inside the table. -/
theorem srcRow_lt {r : ℕ} (h : r < 18432) : srcRow r < 73728 := by unfold srcRow; omega

/-- Within one block of 96 rows the source rows are consecutive too. -/
theorem srcRow_add (n : ℕ) {y : ℕ} (h : y < 96) : srcRow (96 * n + y) = srcRow (96 * n) + y := by
  have h1 : (96 * n + y) / 384 = 96 * n / 384 := by omega
  have h2 : (96 * n + y) / 6144 = 96 * n / 6144 := by omega
  have h3 : (96 * n + y) % 384 = 96 * n % 384 + y := by omega
  unfold srcRow; rw [h1, h2, h3]; omega

/-- The table element that an element of the slow result is a copy of. -/
def srcIdx (j : S18432x384.Idx) : S73728x384.Idx
  | 0 => ⟨srcRow (j 0).val, srcRow_lt (j 0).isLt⟩
  | 1 => ⟨(j 1).val, (j 1).isLt⟩

/-- The slow result as a table of rows: the source table read at each element's source. -/
def pickRows {A : Type} (t : S73728x384.Idx → A) : S18432x384.Idx → A := fun j => t (srcIdx j)

/-- The first row of block `b` of the worker at grid point `i`. -/
def baseRow (i : grid0.Coords) (b : ℕ) : ℕ := 1152 * (i 1).val + 576 * (i 0).val + 96 * b

/-- A block's first row is a multiple of 96. -/
theorem baseRow_eq (i : grid0.Coords) (b : ℕ) : baseRow i b = 96 * (12 * (i 1).val + 6 * (i 0).val + b) := by
  unfold baseRow; omega

/-- The first copy's source offset: the source rows of the worker's block 0. -/
theorem off1_eq : ∀ i : grid0.Coords, k0_off1 i = ![srcRow (baseRow i 0), 0] := by decide +kernel

/-- The later copies' source offsets: block `r + 1`'s source rows. -/
theorem off4_eq : ∀ i : grid0.Coords, ∀ r : Fin 5, k0_off4 i (BitVec.ofNat 32 r.val) = ![srcRow (baseRow i (r.val + 1)), 0] := by
  decide +kernel

/-- The target offsets: block `r`'s rows of the result. -/
theorem off3_eq (i : grid0.Coords) (r : Fin 6) : k0_off3 i (BitVec.ofNat 32 r.val) = ![baseRow i r.val, 0] := k0_off3_eq i r

/-- Block `b` of the worker at grid point `i`, as a rectangle of the result. -/
abbrev block (i : grid0.Coords) (b : Fin 6) : Rect S18432x384 :=
  Rect.unit (s := S18432x384) (k0_off3 i (BitVec.ofNat 32 b.val)) S96x384.size (k0_off3_inb i b)

/-- An element is in a block when its row is. -/
theorem mem_block (i : grid0.Coords) (b : Fin 6) (j : S18432x384.Idx) :
    j ∈ (block i b).set ↔ baseRow i b.val ≤ (j 0).val ∧ (j 0).val < baseRow i b.val + 96 := by
  rw [Rect.mem_set_unit, off3_eq]
  constructor
  · intro h; exact h 0
  · intro h a
    match a with
    | 0 => exact h
    | 1 => exact ⟨Nat.zero_le _, by have := (j 1).isLt; simpa using this⟩

/-- The same block's source, as a rectangle of the table at an offset known to be the block's source row: an element of
    the one block is a copy of the element at the same place in the other. -/
theorem srcIdx_block (i : grid0.Coords) (b : Fin 6) {off : Fin 2 → ℕ} (inb : ∀ a, off a + S96x384.size a ≤ S73728x384.size a)
    (hoff : off = ![srcRow (baseRow i b.val), 0]) (x : S96x384.Idx) :
    srcIdx ((block i b).emb x) = (Rect.unit (s := S73728x384) off S96x384.size inb).emb x := by
  subst hoff
  funext a
  match a with
  | 0 =>
    refine Fin.ext ?_
    show srcRow (k0_off3 i (BitVec.ofNat 32 b.val) 0 + 1 * (x 0).val) = srcRow (baseRow i b.val) + 1 * (x 0).val
    rw [off3_eq, Nat.one_mul, show (![baseRow i b.val, 0] : Fin 2 → ℕ) 0 = baseRow i b.val from rfl, baseRow_eq]
    exact srcRow_add _ (x 0).isLt
  | 1 =>
    refine Fin.ext ?_
    show k0_off3 i (BitVec.ofNat 32 b.val) 1 + 1 * (x 1).val = 0 + 1 * (x 1).val
    rw [off3_eq]; rfl

end Cert.Proof

end
-- ==== Proof.Frames.lean ====
/-
  The same copy said of frames. Read as frames, the slow result's frame `k` of a sequence is the sequence's frame
  `⌊21 k / 5⌋`: `frames_of_rows` says the table of rows, picked row by row and read back as frames, is that.
-/
module

public import proofs.«01_k».proof.Proof.Rows
public import Idealize.ShloMosaic.Lib.Pipeline.Value

@[expose] public section

noncomputable section

namespace Cert.Proof

open Cert.KernelIdeal Cert.KernelIdeal.Gen
open Idealize.ShloMosaic

/-- The element of the frames that an element of the slow result is a copy of: frame `⌊21 k / 5⌋` for its frame `k`. -/
def frameIdx (j : S3x16x384x384.Idx) : S3x64x384x384.Idx
  | 0 => ⟨(j 0).val, (j 0).isLt⟩
  | 1 => ⟨21 * (j 1).val / 5, show _ < 64 by have h : (j 1).val < 16 := (j 1).isLt; omega⟩
  | 2 => ⟨(j 2).val, (j 2).isLt⟩
  | 3 => ⟨(j 3).val, (j 3).isLt⟩

/-- The slow result as frames: the frames read at each element's source. -/
def pickFrames {A : Type} (x : S3x64x384x384.Idx → A) : S3x16x384x384.Idx → A := fun j => x (frameIdx j)

/-- The row of the slow table that an element of the slow result lies in, and its place there. -/
def rowIdx (j : S3x16x384x384.Idx) : S18432x384.Idx
  | 0 => ⟨6144 * (j 0).val + 384 * (j 1).val + (j 2).val, show _ < 18432 by
      have h0 : (j 0).val < 3 := (j 0).isLt
      have h1 : (j 1).val < 16 := (j 1).isLt
      have h2 : (j 2).val < 384 := (j 2).isLt
      omega⟩
  | 1 => ⟨(j 3).val, (j 3).isLt⟩

/-- The source row of that row, in the frames' own numbers. -/
theorem srcRow_rowIdx (j : S3x16x384x384.Idx) :
    srcRow (6144 * (j 0).val + 384 * (j 1).val + (j 2).val) = 24576 * (j 0).val + 384 * (21 * (j 1).val / 5) + (j 2).val := by
  have h1 : (j 1).val < 16 := (j 1).isLt
  have h2 : (j 2).val < 384 := (j 2).isLt
  have e0 : (6144 * (j 0).val + 384 * (j 1).val + (j 2).val) / 6144 = (j 0).val := by omega
  have e1 : (6144 * (j 0).val + 384 * (j 1).val + (j 2).val) / 384 % 16 = (j 1).val := by omega
  have e2 : (6144 * (j 0).val + 384 * (j 1).val + (j 2).val) % 384 = (j 2).val := by omega
  unfold srcRow; rw [e0, e1, e2]; omega

/-- The frames as a table, picked row by row, read back as frames: the picked frames. -/
theorem frames_of_rows {A : Type} (x : S3x64x384x384.Idx → A) :
    shapeCast S3x16x384x384 (pickRows (shapeCast S73728x384 x shapeCasts_S3x64x384x384_S73728x384)) shapeCasts_S18432x384_S3x16x384x384
      = pickFrames x := by
  funext j
  rw [shapeCast_apply _ _ j (rowIdx j) ?row]
  · unfold pickRows pickFrames
    refine shapeCast_apply _ _ _ (frameIdx j) ?_
    rw [Shape.rowMajor_val_four, Shape.rowMajor_val_two]
    show (((j 0).val * 64 + 21 * (j 1).val / 5) * 384 + (j 2).val) * 384 + (j 3).val
      = srcRow (6144 * (j 0).val + 384 * (j 1).val + (j 2).val) * 384 + (j 3).val
    rw [srcRow_rowIdx]; omega
  · rw [Shape.rowMajor_val_four, Shape.rowMajor_val_two]
    show (6144 * (j 0).val + 384 * (j 1).val + (j 2).val) * 384 + (j 3).val
      = (((j 0).val * 16 + (j 1).val) * 384 + (j 2).val) * 384 + (j 3).val
    omega

end Cert.Proof

end
-- ==== Proof.Setup.lean ====
/-
  The launch's set-up: the program as the launch theorem sees it, the ghost state of its proof, the arrays, and what the
  one call hands to each vector subcore and takes back. A subcore is lent a share of the whole table and owns its six
  blocks of the result; it hands them back holding the source rows.
-/
module

public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and unscoped, and no array is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The frames, the frames as a table, the slow result as a table, the slow result. -/
abbrev aLoc (d : Dev nD) : Loc nD τ sig := (SparseCore.T d).loc main_arg0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- What the table holds when the call is made: the frames, row by row. -/
abbrev table (d : Dev nD) : Buf (Elt F) (tLoc d) :=
  shapeCast S73728x384 (show S3x64x384x384.Idx → Elt F .f32 from m (aLoc d)) shapeCasts_S3x64x384x384_S73728x384

/-- What the call leaves in the result: the source rows. -/
abbrev picked (d : Dev nD) : Buf (Elt F) (oLoc d) := pickRows (A := Elt F .f32) (table m d)

/-- The grid point of vector subcore `i` of SparseCore `c`. -/
def coords (c : Fin (grid0.bound 0)) (i : Fin (grid0.bound 1)) : grid0.Coords :=
  fun | 0 => c | 1 => i | ⟨_ + 2, h⟩ => absurd h (Nat.not_lt.2 (Nat.le_add_left _ _))

/-- The worker's number, which names its share of the table. -/
def worker (L : grid0.Coords) : Fin (2 ^ 5) := ⟨16 * (L 0).val + (L 1).val, by
  have h0 : (L 0).val < 2 := (L 0).isLt
  have h1 : (L 1).val < 16 := (L 1).isLt
  omega⟩

/-- The share of the table that a worker is lent: one of the thirty-two equal parts of the full share. -/
abbrev share (L : grid0.Coords) : PosShare TreeShare := ShareLeaves.leaf 5 fullShare (worker L)

/-! ## What the call hands out and takes back -/

/-- A worker's share of the table. -/
abbrev tabPts (d : Dev nD) (L : grid0.Coords) : sProp 𝕄 := tLoc d ↦{share L} table m d
/-- A worker's six blocks of the result, at the contents `f`. -/
abbrev blkPts (d : Dev nD) (L : grid0.Coords) (f : Buf (Elt F) (oLoc d)) : sProp 𝕄 :=
  bigSep Finset.univ fun b : Fin 6 => oLoc d ↦[(block L b).set]{fullShare} f
/-- What a worker is given, and gives back: its share and its blocks. -/
abbrev lot (d : Dev nD) (L : grid0.Coords) (f : Buf (Elt F) (oLoc d)) : sProp 𝕄 := iprop(tabPts m d L ∗ blkPts d L f)
/-- What a SparseCore is given, and gives back: its workers' lots. -/
abbrev lots (d : Dev nD) (c : Fin (grid0.bound 0)) (f : Buf (Elt F) (oLoc d)) : sProp 𝕄 :=
  bigSep Finset.univ fun i : Fin ((K (F := F)).nSub 0) => lot m d (coords c (Fin.cast nSub_zero i)) f

/-- The call's payments: the lots, first at what the result holds at launch, then at the source rows. -/
def P : (K (F := F)).Pay (nD := nD) (Val := Elt F) (Name := ℕ) (U := UU) where
  st := fun q d c => match q with | 0 => lots m d (Fin.cast nCore_zero c) (m (oLoc d))
  dn := fun q d c => match q with | 0 => lots m d (Fin.cast nCore_zero c) (picked m d)
  go := fun q d c i => match q with | 0 => lot m d (coords (Fin.cast nCore_zero c) (Fin.cast nSub_zero i)) (m (oLoc d))
  td := fun q d c i => match q with | 0 => lot m d (coords (Fin.cast nCore_zero c) (Fin.cast nSub_zero i)) (picked m d)
  x := fun _ _ => iprop(emp)

instance P_storable : (P (F := F) m).IsStorable where
  st q d c := match q with
    | 0 => (inferInstance : BI.Storable (upEmb : UEmb _ 𝕄) (lots m d (Fin.cast nCore_zero c) (m (oLoc d))))
  dn q d c := match q with
    | 0 => (inferInstance : BI.Storable (upEmb : UEmb _ 𝕄) (lots m d (Fin.cast nCore_zero c) (picked m d)))
  go q d c i := match q with
    | 0 => (inferInstance : BI.Storable (upEmb : UEmb _ 𝕄) (lot m d (coords (Fin.cast nCore_zero c) (Fin.cast nSub_zero i)) (m (oLoc d))))
  td q d c i := match q with
    | 0 => (inferInstance : BI.Storable (upEmb : UEmb _ 𝕄) (lot m d (coords (Fin.cast nCore_zero c) (Fin.cast nSub_zero i)) (picked m d)))

/-- The dispatch deals a SparseCore's lots to its workers and collects them. -/
theorem vecSplit : (K (F := F)).VecSplit' (P m) 0 := by
  intro d c
  show lots m d (Fin.cast nCore_zero c) (m (oLoc d)) ⊢ |={Set.univ}=> iprop(lots m d (Fin.cast nCore_zero c) (m (oLoc d))
    ∗ (lots m d (Fin.cast nCore_zero c) (picked m d) -∗ lots m d (Fin.cast nCore_zero c) (picked m d)))
  iintro H; imodintro
  isplitl [H]; · iexact H
  iintro H; iexact H

end Cert.Proof

end
-- ==== Proof.Deal.lean ====
/-
  The whole arrays and the workers' lots are the same ownership. The full share of the table is its thirty-two equal
  parts, one to a worker; the result is its 192 disjoint blocks, six to a worker. So the table and the result together are
  the two SparseCores' lots: read one way before the call, the other way after it.
-/
module

public import proofs.«01_k».proof.Proof.Setup

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD)

/-- A worker: its SparseCore and its number there. -/
abbrev Worker : Type := Fin (grid0.bound 0) × Fin (grid0.bound 1)

/-- Counting the workers: worker `i` of SparseCore `c` is number `16 c + i`. -/
def count : Worker ≃ Fin (2 ^ 5) where
  toFun p := worker (coords p.1 p.2)
  invFun n := (⟨n.val / 16, show n.val / 16 < 2 by have := n.isLt; omega⟩, ⟨n.val % 16, show n.val % 16 < 16 by omega⟩)
  left_inv p := by
    have h : p.2.val < 16 := p.2.isLt
    refine Prod.ext (Fin.ext ?_) (Fin.ext ?_)
    · show (16 * p.1.val + p.2.val) / 16 = p.1.val
      omega
    · show (16 * p.1.val + p.2.val) % 16 = p.2.val
      omega
  right_inv n := Fin.ext (show 16 * (n.val / 16) + n.val % 16 = n.val by omega)

/-- The whole table is the workers' shares of it. -/
theorem table_shares : (tLoc d ↦{fullShare} table m d : sProp 𝕄)
    = bigSep Finset.univ fun p : Worker => tabPts m d (coords p.1 p.2) := by
  rw [ShareLeaves.pointsTo_leaves Finset.univ (table m d) 5 fullShare, bigSep_univ_equiv count]
  rfl

/-- The blocks of the result, by worker and number. -/
abbrev blockSet (t : Worker × Fin 6) : Finset S18432x384.Idx := (block (coords t.1.1 t.1.2) t.2).set

/-- Which rows a block has, in the worker's numbers. -/
theorem mem_blockSet (t : Worker × Fin 6) (j : S18432x384.Idx) : j ∈ blockSet t ↔
    1152 * t.1.2.val + 576 * t.1.1.val + 96 * t.2.val ≤ (j 0).val
      ∧ (j 0).val < 1152 * t.1.2.val + 576 * t.1.1.val + 96 * t.2.val + 96 := mem_block _ _ _

/-- No two blocks share an element. -/
theorem blocks_disjoint : ∀ t ∈ (Finset.univ : Finset (Worker × Fin 6)), ∀ t' ∈ (Finset.univ : Finset (Worker × Fin 6)),
    t ≠ t' → Disjoint (blockSet t) (blockSet t') := by
  intro t _ t' _ hne
  refine Finset.disjoint_left.mpr fun j hj hj' => hne ?_
  rw [mem_blockSet] at hj hj'
  have hc : t.1.1.val < 2 := t.1.1.isLt
  have hc' : t'.1.1.val < 2 := t'.1.1.isLt
  have hb : t.2.val < 6 := t.2.isLt
  have hb' : t'.2.val < 6 := t'.2.isLt
  refine Prod.ext (Prod.ext (Fin.ext ?_) (Fin.ext ?_)) (Fin.ext ?_) <;> omega

/-- Every element is in a block. -/
theorem blocks_cover : (Finset.univ : Finset (Worker × Fin 6)).biUnion blockSet = Finset.univ := by
  refine Finset.eq_univ_iff_forall.mpr fun j => Finset.mem_biUnion.mpr ?_
  have hj : (j 0).val < 18432 := (j 0).isLt
  refine ⟨((⟨(j 0).val / 576 % 2, show _ < 2 by omega⟩, ⟨(j 0).val / 1152, show _ < 16 by omega⟩),
    ⟨(j 0).val / 96 % 6, by omega⟩), Finset.mem_univ _, (mem_blockSet _ _).mpr ?_⟩
  dsimp only
  omega

/-- The whole result is the workers' blocks of it. -/
theorem result_blocks (f : Buf (Elt F) (oLoc d)) : (oLoc d ↦{fullShare} f : sProp 𝕄)
    = bigSep Finset.univ fun p : Worker => blkPts d (coords p.1 p.2) f := by
  rw [← bigSep_univ_prod (fun t : Worker × Fin 6 => (oLoc d ↦[blockSet t]{fullShare} f : sProp 𝕄)),
    ← pointsTo_biUnion (ℓ := oLoc d) Finset.univ blockSet blocks_disjoint, blocks_cover]

/-- The table and the result, whole, are the SparseCores' lots. -/
theorem deal (f : Buf (Elt F) (oLoc d)) :
    (bigSep Finset.univ fun c : Fin ((K (F := F)).nCore 0) => lots m d (Fin.cast nCore_zero c) f)
      = (iprop((tLoc d ↦{fullShare} table m d) ∗ oLoc d ↦{fullShare} f) : sProp 𝕄) := by
  rw [table_shares, result_blocks, ← bigSep_sep', bigSep_univ_prod]
  rfl

end Cert.Proof

end
-- ==== Proof.Tile.lean ====
/-
  One vector subcore's task. It owns six blocks of the result and copies each from its place in the table through one of
  two scratch buffers: into the buffer, and from the buffer out, each copy on a semaphore of its own, the next block's copy
  in running beside this block's copy out. `tile_body` runs the task and says what it leaves: each block at its source
  rows, the share of the table back, every semaphore at zero.
-/
module

public import proofs.«01_k».proof.Proof.Setup

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The table, as a vector subcore addresses it. -/
abbrev tV : Memref Cert.KernelIdeal.sig Kind.scVector Space.hbm Cert.KernelIdeal.S73728x384 EltTy.f32 := Memref.whole Cert.KernelIdeal.main_v0_scv
/-- The result table. -/
abbrev oV : Memref Cert.KernelIdeal.sig Kind.scVector Space.hbm Cert.KernelIdeal.S18432x384 EltTy.f32 := Memref.whole Cert.KernelIdeal.main_v1_scv
/-- The first scratch buffer. -/
abbrev s₀V : Memref Cert.KernelIdeal.sig Kind.scVector Space.vmem Cert.KernelIdeal.S96x384 EltTy.f32 := Memref.whole Cert.KernelIdeal.cc0_scratch0
/-- The second scratch buffer. -/
abbrev s₁V : Memref Cert.KernelIdeal.sig Kind.scVector Space.vmem Cert.KernelIdeal.S96x384 EltTy.f32 := Memref.whole Cert.KernelIdeal.cc0_scratch1

variable (m : (ℓ : Loc nD τ sig) → Buf (Elt F) ℓ) (d : Dev nD) (L : grid0.Coords)

/-- The subcore at a grid point. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The task's memory -/

/-- Block `b` of the result as the task's copies out of scratch address it. -/
abbrev oBlk (L : grid0.Coords) (b : Fin 6) : Memref sig .scVector .hbm S96x384 .f32 := (oV).slice (block L b) (fun _ => rfl)

theorem set_oBlk (b : Fin 6) : (oBlk L b).view.set = (block L b).set := by
  show ((View.whole (main_v1_scv : Ref sig .scVector)).slice (block L b)).set = _
  rw [View.set_slice]; exact Finset.map_refl

/-- A block of the result, spelt as the task addresses it. -/
theorem pts_oBlk (b : Fin 6) (f : Buf (Elt F) (oLoc d)) :
    ((oBlk L b).view.loc (thr d L) ↦[(oBlk L b).view.set]{fullShare} f : sProp 𝕄) = oLoc d ↦[(block L b).set]{fullShare} f := by
  rw [set_oBlk]
theorem pts_tV (q : PosShare TreeShare) (f : Buf (Elt F) (tLoc d)) :
    ((tV).view.loc (thr d L) ↦{q} f : sProp 𝕄) = tLoc d ↦{q} f := rfl
theorem pts_s₀V (f : Buf (Elt F) ((thr d L).loc cc0_scratch0)) :
    ((s₀V).view.loc (thr d L) ↦{fullShare} f : sProp 𝕄) = (thr d L).loc cc0_scratch0 ↦{fullShare} f := rfl
theorem pts_s₁V (f : Buf (Elt F) ((thr d L).loc cc0_scratch1)) :
    ((s₁V).view.loc (thr d L) ↦{fullShare} f : sProp 𝕄) = (thr d L).loc cc0_scratch1 ↦{fullShare} f := rfl

/-- The four semaphores of the copies: into either buffer, out of either. -/
abbrev cell (d : Dev nD) (L : grid0.Coords) (s : DmaSems sig S_) : GSem nD τ sig := (thr d L, .dma s.sem)

theorem mem_cells (s : DmaSems sig S_) (h : (SemLoc.dma s.sem : SemLoc sig).isScoped .scVector = true) :
    cell d L s ∈ ownCells (thr d L) := mem_ownCells.mpr ⟨rfl, h⟩

/-- The subcore's own semaphores, each at zero: the copies' four, and the rest. -/
theorem ownSems0_V :
    (ownSems0 (thr d L) : sProp 𝕄)
      = iprop(semVal (cell d L cc0_scratch2) 0 ∗ semVal (cell d L cc0_scratch3) 0 ∗ semVal (cell d L cc0_scratch4) 0
          ∗ semVal (cell d L cc0_scratch5) 0
          ∗ bigSep (((((ownCells (thr d L)).erase (cell d L cc0_scratch2)).erase (cell d L cc0_scratch3)).erase
              (cell d L cc0_scratch4)).erase (cell d L cc0_scratch5)) fun g => semVal g 0) := by
  have ne (s s' : DmaSems sig S_) (h : (SemLoc.dma s.sem : SemLoc sig) ≠ .dma s'.sem) : cell d L s ≠ cell d L s' :=
    fun e => h (Prod.ext_iff.mp e).2
  unfold SparseCore.Cfg.ownSems0
  rw [SparseCore.bigSep_erase' (mem_cells d L cc0_scratch2 (by decide)),
    SparseCore.bigSep_erase' (Finset.mem_erase.mpr ⟨ne cc0_scratch3 cc0_scratch2 (by decide), mem_cells d L cc0_scratch3 (by decide)⟩),
    SparseCore.bigSep_erase' (Finset.mem_erase.mpr ⟨ne cc0_scratch4 cc0_scratch3 (by decide),
      Finset.mem_erase.mpr ⟨ne cc0_scratch4 cc0_scratch2 (by decide), mem_cells d L cc0_scratch4 (by decide)⟩⟩),
    SparseCore.bigSep_erase' (Finset.mem_erase.mpr ⟨ne cc0_scratch5 cc0_scratch4 (by decide),
      Finset.mem_erase.mpr ⟨ne cc0_scratch5 cc0_scratch3 (by decide),
        Finset.mem_erase.mpr ⟨ne cc0_scratch5 cc0_scratch2 (by decide), mem_cells d L cc0_scratch5 (by decide)⟩⟩⟩)]

/-- The subcore's own memory: the two scratch buffers at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The six blocks, one by one, as the task addresses them. -/
theorem blkPts_six (f : Buf (Elt F) (oLoc d)) :
    (blkPts d L f : sProp 𝕄)
      = iprop(((oBlk L 0).view.loc (thr d L) ↦[(oBlk L 0).view.set]{fullShare} f) ∗ ((oBlk L 1).view.loc (thr d L) ↦[(oBlk L 1).view.set]{fullShare} f)
        ∗ ((oBlk L 2).view.loc (thr d L) ↦[(oBlk L 2).view.set]{fullShare} f) ∗ ((oBlk L 3).view.loc (thr d L) ↦[(oBlk L 3).view.set]{fullShare} f)
        ∗ ((oBlk L 4).view.loc (thr d L) ↦[(oBlk L 4).view.set]{fullShare} f) ∗ ((oBlk L 5).view.loc (thr d L) ↦[(oBlk L 5).view.set]{fullShare} f)) := by
  rw [pts_oBlk, pts_oBlk, pts_oBlk, pts_oBlk, pts_oBlk, pts_oBlk]
  unfold blkPts
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-! ## What a copied block holds -/

/-- The source of block `b`: 96 rows of the table, read off it at the offset `off`. -/
abbrev source {off : Fin 2 → ℕ} (inb : ∀ a, off a + S96x384.size a ≤ S73728x384.size a) : S96x384.Idx → Elt F .f32 :=
  ((tV).slice (Rect.unit (s := S73728x384) off S96x384.size inb) (fun _ => rfl)).view.read (Elt F) (table m d)

/-- What a buffer passes on: written whole, it reads as what was written. -/
theorem relay (b : Ref sig .scVector) (f w : b.ty.Contents (Elt F)) :
    (Memref.whole b).view.read (Elt F) (View.write (Elt F) (Memref.whole b).view f w Finset.univ) = w :=
  View.write_whole_univ b f w

/-- Block `b` written with the rows read at its source offset holds the source rows. -/
theorem block_landed (b : Fin 6) (g : Buf (Elt F) (oLoc d)) {off : Fin 2 → ℕ}
    (inb : ∀ a, off a + S96x384.size a ≤ S73728x384.size a) (hoff : off = ![srcRow (baseRow L b.val), 0])
    {w : S96x384.Idx → Elt F .f32} (hw : w = source m d inb) :
    ((oBlk L b).view.loc (thr d L) ↦[(oBlk L b).view.set]{fullShare}
        (oBlk L b).view.writes (Elt F) g [⟨Rect.whole S96x384, w⟩] : sProp 𝕄)
      = (oBlk L b).view.loc (thr d L) ↦[(oBlk L b).view.set]{fullShare} picked m d := by
  refine pointsTo_congr fun i hi => ?_
  obtain ⟨x, -, rfl⟩ := Finset.mem_map.mp hi
  have h := View.write_emb_of_mem (v := (oBlk L b).view.slice (Rect.whole S96x384)) (Val := Elt F) g w (Finset.mem_univ x)
  rw [show ((oBlk L b).view.slice (Rect.whole S96x384)).emb x = (oBlk L b).view.emb x from
    congrArg (oBlk L b).view.emb (Rect.emb_whole_apply S96x384 x)] at h
  refine h.trans ?_
  subst hw
  show table m d _ = table m d (srcIdx ((block L b).emb x))
  rw [srcIdx_block L b inb hoff]; rfl

variable [FloatOps F]

set_option maxHeartbeats 4000000 in
/-- The task at grid point `L`: given the share of the table and the six blocks at whatever the result held, it ends with
    the share back, the blocks at their source rows, its own memory and semaphores as they were handed out, and no wait
    outstanding but those it was given. -/
theorem tile_body (hF : (K (F := F)).Facts) (O : CellTallies nD τ sig (HIx 1)) (W : Waits sig (HIx 1)) (hO : ∀ g, O g none = 0) :
    iprop(levAts (K (F := F)).L (K (F := F)).lev ∗ emp ∗ lot m d L (m (oLoc d))
        ∗ scopedBufs (thr d L) ∗ scopedSems0 (thr d L) ∗ owes (thr d L) O W)
      ⊢ wp frame (wpE (defs₀ (F := F)) 𝒱₀ (thr d L) none) Set.univ
          (cc0_k L tV (Memref.isWhole_whole _) oV (Memref.isWhole_whole _) s₀V (Memref.isWhole_whole _) s₁V (Memref.isWhole_whole _)
            cc0_scratch2 cc0_scratch3 cc0_scratch4 cc0_scratch5)
          fun _ => iprop(lot m d L (picked m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Ho⟩, ⟨⟨%f0, Hs0⟩, ⟨%f1, Hs1⟩, Hbufs⟩, ⟨HsemA, HsemB, HsemC, HsemD, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (blkPts_six (F := F) d L _)) $$ Ho
  icases Ho' with ⟨Ho0, Ho1, Ho2, Ho3, Ho4, Ho5⟩
  ihave Ht' := (Entails.of_eq (pts_tV (F := F) d L _ _).symm) $$ Ht
  ihave Hs0' := (Entails.of_eq (pts_s₀V (F := F) d L _).symm) $$ Hs0
  ihave Hs1' := (Entails.of_eq (pts_s₁V (F := F) d L _).symm) $$ Hs1
  sl_exec
  ihave Ho0' := (Entails.of_eq (block_landed m d L 0 _ (k0_off1_inb L) (off1_eq L) (w := tile_body.sl.dma0_1 m d L f0)
    (relay cc0_scratch0 _ _))) $$ Ho0
  ihave Ho1' := (Entails.of_eq (block_landed m d L 1 _ (k0_off4_inb L 0) (off4_eq L 0) (w := tile_body.sl.dma0_3 m d L f1)
    (relay cc0_scratch1 _ _))) $$ Ho1
  ihave Ho2' := (Entails.of_eq (block_landed m d L 2 _ (k0_off4_inb L 1) (off4_eq L 1) (w := tile_body.sl.dma0_5 m d L f0)
    (relay cc0_scratch0 _ _))) $$ Ho2
  ihave Ho3' := (Entails.of_eq (block_landed m d L 3 _ (k0_off4_inb L 2) (off4_eq L 2) (w := tile_body.sl.dma0_7 m d L f1)
    (relay cc0_scratch1 _ _))) $$ Ho3
  ihave Ho4' := (Entails.of_eq (block_landed m d L 4 _ (k0_off4_inb L 3) (off4_eq L 3) (w := tile_body.sl.dma0_9 m d L f0)
    (relay cc0_scratch0 _ _))) $$ Ho4
  ihave Ho5' := (Entails.of_eq (block_landed m d L 5 _ (k0_off4_inb L 4) (off4_eq L 4) (w := tile_body.sl.dma0_11 m d L f1)
    (relay cc0_scratch1 _ _))) $$ Ho5
  sl_step
  isplitl [Ht' Ho0' Ho1' Ho2' Ho3' Ho4' Ho5']
  · isplitl [Ht']; · iapply (Entails.of_eq (pts_tV (F := F) d L _ _)); iexact Ht'
    iapply (Entails.of_eq (blkPts_six (F := F) d L (picked m d)).symm)
    isplitl [Ho0']; · iexact Ho0'
    isplitl [Ho1']; · iexact Ho1'
    isplitl [Ho2']; · iexact Ho2'
    isplitl [Ho3']; · iexact Ho3'
    isplitl [Ho4']; · iexact Ho4'
    iexact Ho5'
  isplitl [Hs0' Hs1' Hbufs]
  · isplitl [Hs0']; · iexists _; iexact Hs0'
    isplitl [Hs1']; · iexists _; iexact Hs1'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  repeat (rcases Finset.mem_insert.mp hp with hp | hp; · exact .inr (hp ▸ rfl))
  exact .inl hp

/-! ## The obligation -/

/-- The kernel's body on a vector subcore of the grid is the task at its grid point. -/
theorem defs₀_vector (c : Fin τ.nSC) (s : Fin τ.nSub) :
    defs₀ (F := F) (.scVector c s) 0 ()
      = SparseCore.onTile hcore0 hsub0 (fun c s => cc0_k (coords c s)
          tV (Memref.isWhole_whole _) oV (Memref.isWhole_whole _) s₀V (Memref.isWhole_whole _) s₁V (Memref.isWhole_whole _)
          cc0_scratch2 cc0_scratch3 cc0_scratch4 cc0_scratch5) ⟨⟩ c s := rfl

/-- A task that adds only copy waits meets what the dispatch allows it to add. -/
theorem waits_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore of the call turns its lot at the launch's contents into its lot at the source rows. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coords ⟨_, hci.1⟩ ⟨_, hci.2⟩) hF O W hO).trans (wp_mono frame _ _ fun _ => waits_post)

end Cert.Proof

end
-- ==== Proof.Launch.lean ====
/-
  The kernel's run. @main copies the frames into a table, makes the one call, and copies the table the call leaves into
  the slow result; the fast result is the frames themselves. `run_main` says of every run that the slow result holds the
  picked rows, the frames are as they were and every semaphore is at zero.
-/
module

public import proofs.«01_k».proof.Proof.Deal
public import proofs.«01_k».proof.Proof.Tile

@[expose] public section

noncomputable section

namespace Cert.Proof

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- What the kernel leaves in the slow result: the picked rows, as frames. -/
abbrev slow (d : Dev nD) : Buf (Elt F) (rLoc d) :=
  shapeCast S3x16x384x384 (show S18432x384.Idx → Elt F .f32 from picked m d) shapeCasts_S18432x384_S3x16x384x384

variable [FloatOps F]

/-! ## The launch element -/

/-- The handshakes' rounds; the kernel has no ghost state of its own. -/
def u₀ : UU := (initOf (K (F := F)).hsCells (K (F := F)).hsToks, 1)

/-- The launch element gives the handshakes' rounds, and nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) := by
    unfold P; dsimp only; exact (bigSep_congr fun _ _ => bigSep_emp_const _).trans (bigSep_emp_const _)
  rw [hx, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The arrays on the TensorCore -/

/-- The frames. -/
abbrev a' : DevRef τ sig := Proc.devRef .tc (main_arg0 : Ref sig .tc)
/-- The table. -/
abbrev t' : DevRef τ sig := Proc.devRef .tc (main_v0 : Ref sig .tc)
/-- The result table. -/
abbrev o' : DevRef τ sig := Proc.devRef .tc (main_v1 : Ref sig .tc)
/-- The slow result. -/
abbrev r' : DevRef τ sig := Proc.devRef .tc (main_v2 : Ref sig .tc)

/-- The frames into the table. -/
abbrev opIn : HloOp τ sig (Elt F) := StableHlo.reshape main_arg0 main_v0 rfl shapeCasts_S3x64x384x384_S73728x384
/-- The result table into the slow result. -/
abbrev opOut : HloOp τ sig (Elt F) := StableHlo.reshape main_v1 main_v2 rfl shapeCasts_S18432x384_S3x16x384x384

/-- The four arrays of @main. -/
theorem unscoped_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- Two arrays held together are each held. -/
theorem held_two (d : Dev nD) {x y : DevRef τ sig} (h : x ≠ y) (W : Valuation τ sig (Elt F)) :
    (held (SparseCore.T d) {x, y} W : sProp 𝕄) = iprop((((d, x) : Loc nD τ sig) ↦{fullShare} W x) ∗ ((d, y) : Loc nD τ sig) ↦{fullShare} W y) := by
  unfold held
  rw [SparseCore.bigSep_insert' (by simpa using h), bigSep_singleton]

/-- The arrays' contents at launch, and with the result table at the picked rows. -/
def V₀ (d : Dev nD) : Valuation τ sig (Elt F) := fun b => m (d, b)
def V₁ (d : Dev nD) : Valuation τ sig (Elt F) := Function.update (V₀ m d) o' (picked m d)

/-- After the first copy the frames are unchanged and the table holds them. -/
theorem held_in (d : Dev nD) : (held (SparseCore.T d) {a', t'} ((opIn (F := F)).result (V₀ m d)) : sProp 𝕄)
    = iprop((aLoc d ↦{fullShare} m (aLoc d)) ∗ tLoc d ↦{fullShare} table m d) := by
  rw [held_two d (by decide)]
  rw [StableHlo.reshape_result_ne _ _ _ _ _ _ (V₀ m d) (r := main_arg0) (by decide), StableHlo.reshape_result _ _ _ _ _ _ (V₀ m d)]
  rfl

/-- After the last copy the slow result holds the picked rows as frames. -/
theorem held_out (d : Dev nD) : (held (SparseCore.T d) {o', r'} ((opOut (F := F)).result (V₁ m d)) : sProp 𝕄)
    = iprop((oLoc d ↦{fullShare} picked m d) ∗ rLoc d ↦{fullShare} slow m d) := by
  rw [held_two d (by decide)]
  rw [StableHlo.reshape_result_ne _ _ _ _ _ _ (V₁ m d) (r := main_v1) (by decide), StableHlo.reshape_result _ _ _ _ _ _ (V₁ m d),
    show V₁ m d (Proc.devRef .tc (main_v1 : Ref sig .tc)) = picked m d from Function.update_self _ _ _]
  rfl

/-- What the two copies touch. -/
theorem opIn_bufs : (opIn (F := F)).bufs ⊆ {a', t'} := by
  rw [StableHlo.reshape_bufs]
theorem opOut_bufs : (opOut (F := F)).bufs ⊆ {o', r'} := by
  rw [StableHlo.reshape_bufs]

/-! ## @main -/

/-- What the call takes: the table and the result at launch. -/
theorem call_in (d : Dev nD) : (bigSep Finset.univ fun c : Fin ((K (F := F)).nCore 0) => (P m).st 0 d c)
    = (iprop((tLoc d ↦{fullShare} table m d) ∗ oLoc d ↦{fullShare} m (oLoc d)) : sProp 𝕄) := deal m d (m (oLoc d))
/-- What the call gives back: the table, and the result at the picked rows. -/
theorem call_out (d : Dev nD) : (bigSep Finset.univ fun c : Fin ((K (F := F)).nCore 0) => (P m).dn 0 d c)
    = (iprop((tLoc d ↦{fullShare} table m d) ∗ oLoc d ↦{fullShare} picked m d) : sProp 𝕄) := deal m d (picked m d)

/-- What @main leaves: the frames as they were, the slow result at the picked rows. -/
abbrev FIN (d : Dev nD) : sProp 𝕄 := iprop((aLoc d ↦{fullShare} m (aLoc d)) ∗ rLoc d ↦{fullShare} slow m d)

/-- @main on a device: the frames into the table, the call from the table and the result and back, the result into the
    slow result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Ha, Ht, Ho, Hr⟩, Hts, -⟩, -⟩
  -- the frames into the table
  iapply (wp_hlo_within 𝒱 (SparseCore.T d) none Set.univ (op := opIn) (S := {a', t'})
    opIn_bufs (V := V₀ m d)) $$ [Hb Ha Ht]
  · isplitl [Hb]; · iexact Hb
    rw [held_two d (by decide)]
    isplitl [Ha]; · iexact Ha
    iexact Ht
  iintro ⟨Hb, Hheld⟩
  ihave Hh := (Entails.of_eq (held_in m d)) $$ Hheld
  icases Hh with ⟨Ha, Ht⟩
  rw [wp_ret]; imodintro
  -- the call
  iapply ((K (F := F)).wp_run (D (F := F)) 𝒱 (EH := EH) (P := P m) κ d 0) $$ [Hst Ha Ht Ho Hb Hr Hts]
  isplitr; · iexact Hctx
  isplitl [Hst]; · iexact Hst
  isplitl [Ht Ho]
  · rw [call_in]
    isplitl [Ht]; · iexact Ht
    iexact Ho
  iintro ⟨Hst, Hdn⟩
  ihave Hdn' := (Entails.of_eq (call_out m d)) $$ Hdn
  icases Hdn' with ⟨-, Ho⟩
  -- the result table into the slow result
  iapply (wp_hlo_within 𝒱 (SparseCore.T d) none Set.univ (op := opOut) (S := {o', r'})
    opOut_bufs (V := V₁ m d)) $$ [Hb Ho Hr]
  · isplitl [Hb]; · iexact Hb
    rw [held_two d (by decide), show V₁ m d o' = picked m d from Function.update_self _ _ _,
      show V₁ m d r' = m (rLoc d) from Function.update_of_ne (show r' ≠ o' by decide) _ _]
    isplitl [Ho]; · iexact Ho
    iexact Hr
  iintro ⟨Hb, Hheld⟩
  ihave Hh := (Entails.of_eq (held_out m d)) $$ Hheld
  icases Hh with ⟨-, Hr⟩
  rw [wp_ret]; imodintro; imodintro
  isplitl [Hst]; · iexact Hst
  isplitr [Hb Hts]
  · isplitl [Ha]; · iexact Ha
    iexact Hr
  isplitl [Hb] <;> iassumption

/-! ## The run -/

/-- What a device's memory holds at the end. -/
def fq (d : Dev nD) (s' : Phys nD τ sig (Elt F)) : Prop :=
  s'.mem.mem (aLoc d) = m (aLoc d) ∧ s'.mem.mem (rLoc d) = slow m d

/-- What @main leaves is what the memory holds. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := slow m d)) $$ [HSI Hr]
  · isplitl [HSI] <;> iassumption
  icases H with %hr
  ipureintro; exact ⟨funext fun i => ha i (Finset.mem_univ i), funext fun i => hr i (Finset.mem_univ i)⟩

/-- Every device's frames are as they were, its slow result holds the picked rows, and every semaphore is at zero. -/
def QC : PUnit × MemSt nD τ sig (Elt F) → Prop := fun r =>
  (∀ c : Dev nD, r.2.mem (aLoc c) = m (aLoc c) ∧ r.2.mem (rLoc c) = slow m c) ∧ r.2.sem = fun _ => 0

/-- Every run of the kernel ends so, from any memory, over any element type. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Positions.lean ====
/-
  The frame numbers the reference computes. It spaces 16 numbers evenly from 0 to 63, the first fifteen as
  `0 (1 - k / 15) + 63 (k / 15)` and the last as 63, drops their fractions and adds 64 to any that is negative. Over
  the extended reals the `k`-th number is `21 k / 5`, so the frame numbers are `⌊21 k / 5⌋`: none negative, none above 63.
-/
module

public import proofs.«01_k».proof.Proof.Gen.ReferenceIdeal
public import Idealize.ShloMosaic.Lib.Pipeline.Value
public import Idealize.ShloMosaic.Lib.IdealHost

@[expose] public section

noncomputable section

namespace Cert.Proof.Ref

open Cert.ReferenceIdeal Cert.ReferenceIdeal.Gen
open Idealize.ShloMosaic

/-! ## The numbers -/

/-- The word `0x41700000` is fifteen. -/
theorem ofBits_fifteen : Ideal.ofBits .f32 0x41700000#32 = ((15 : ℝ) : EReal) := by
  simp [Ideal.ofBits, Ideal.ieee, -EReal.coe_mul]; norm_num

/-- A small number is its word's signed value. -/
theorem toInt_word {n : ℕ} (h : n < 64) : (BitVec.ofNat 32 n).toInt = n := by
  rw [BitVec.toInt_eq_toNat_cond, BitVec.toNat_ofNat]
  omega

/-- The evenly spaced number before the last, as a real. -/
theorem spaced_eq (k : ℕ) :
    (0 : EReal) * (1 - Ideal.div ((k : ℝ) : EReal) ((15 : ℝ) : EReal)) + ((63 : ℝ) : EReal) * Ideal.div ((k : ℝ) : EReal) ((15 : ℝ) : EReal)
      = ((21 * k / 5 : ℝ) : EReal) := by
  have h15 : ((15 : ℝ) : EReal) ≠ 0 := by norm_cast
  unfold Ideal.div
  rw [if_neg h15, zero_mul, zero_add, ← EReal.coe_inv, ← EReal.coe_mul, ← EReal.coe_mul]
  congr 1
  ring

/-- Its fraction dropped. -/
theorem fptosi_spaced {k : ℕ} (h : k < 16) : Ideal.fptosi 32 ((21 * k / 5 : ℝ) : EReal) = BitVec.ofNat 32 (21 * k / 5) := by
  have hf : ⌊(21 * k / 5 : ℝ)⌋ = ((21 * k / 5 : ℕ) : ℤ) := by
    rw [Int.floor_eq_iff]
    have h1 : 5 * (21 * k / 5) ≤ 21 * k := by omega
    have h2 : 21 * k < 5 * (21 * k / 5) + 5 := by omega
    have h1' : (5 : ℝ) * ((21 * k / 5 : ℕ) : ℝ) ≤ 21 * k := by exact_mod_cast h1
    have h2' : (21 : ℝ) * k < 5 * ((21 * k / 5 : ℕ) : ℝ) + 5 := by exact_mod_cast h2
    rw [Int.cast_natCast]
    constructor <;> linarith
  have h0 : (0 : ℝ) ≤ 21 * k / 5 := by positivity
  show BitVec.ofInt 32 (max (-((2 ^ (32 - 1) : ℕ) : ℤ)) (min (((2 ^ (32 - 1) : ℕ) : ℤ) - 1)
    (if (0 : ℝ) ≤ 21 * k / 5 then ⌊(21 * k / 5 : ℝ)⌋ else ⌈(21 * k / 5 : ℝ)⌉))) = _
  rw [if_pos h0, hf]
  have hb : 21 * k / 5 < 64 := by omega
  rw [show max (-((2 ^ (32 - 1) : ℕ) : ℤ)) (min (((2 ^ (32 - 1) : ℕ) : ℤ) - 1) ((21 * k / 5 : ℕ) : ℤ)) = ((21 * k / 5 : ℕ) : ℤ) by
    norm_num; omega]
  rfl

/-! ## The reference's arrays -/

/-- The index before the last, over 15. -/
def ratio : FVec Ideal S15 .f32 :=
  Host.divf (sitofp .f32 (iotaInDim S15 32 0)) (broadcastInDim S15 ![] bcast_S_S15 (constant S_ .f32 0x41700000#32))

/-- The first fifteen numbers. -/
def spaced : FVec Ideal S15 .f32 :=
  addf (mulf (broadcastInDim S15 ![0] bcast_S1_S15_0 (shapeCast _ (sitofp .f32 (constantI S_ 32 0#32)) shapeCasts_S_S1))
      (subf (broadcastInDim S15 ![] bcast_S_S15 (constant S_ .f32 0x3F800000#32)) ratio))
    (mulf (broadcastInDim S15 ![0] bcast_S1_S15_0 (shapeCast _ (sitofp .f32 (constantI S_ 32 63#32)) shapeCasts_S_S1)) ratio)

/-- All sixteen. -/
def numbers : FVec Ideal S16 .f32 :=
  concatenate S16 0 [⟨S15, spaced⟩, ⟨S1, broadcastInDim S1 ![] bcast_S_S1 (sitofp .f32 (constantI S_ 32 63#32))⟩] concatenates_S15_S1_S16_d0

/-- The frame numbers. -/
def frameNo : IVec S16 32 :=
  select (cmpi .slt (fptosi 32 numbers) (broadcastInDim S16 ![] bcast_S_S16 (constantI S_ 32 0#32)))
    (addi (fptosi 32 numbers) (broadcastInDim S16 ![] bcast_S_S16 (constantI S_ 32 64#32))) (fptosi 32 numbers)

/-! ## Their values -/

/-- The first fifteen numbers are `21 k / 5`. -/
theorem spaced_apply (i : S15.Idx) : spaced i = ((21 * (i 0).val / 5 : ℝ) : EReal) := by
  have hk : (i 0).val < 64 := lt_trans (i 0).isLt (by decide)
  rw [← spaced_eq]
  show (((0#32 : BitVec 32).toInt : ℝ) : EReal) * (Ideal.ofBits .f32 0x3F800000#32
      - Ideal.div ((((BitVec.ofNat 32 (i 0).val).toInt : ℤ) : ℝ) : EReal) (Ideal.ofBits .f32 0x41700000#32))
    + (((63#32 : BitVec 32).toInt : ℝ) : EReal) * Ideal.div ((((BitVec.ofNat 32 (i 0).val).toInt : ℤ) : ℝ) : EReal) (Ideal.ofBits .f32 0x41700000#32) = _
  rw [ofBits_fifteen, Ideal.ofBits_one_f32, toInt_word hk, Int.cast_natCast,
    show (0#32 : BitVec 32).toInt = 0 from rfl, show (63#32 : BitVec 32).toInt = 63 from rfl]
  norm_num

/-- All sixteen are. -/
theorem numbers_apply (i : S16.Idx) : numbers i = ((21 * (i 0).val / 5 : ℝ) : EReal) := by
  have hi : (i 0).val < 16 := (i 0).isLt
  by_cases h : (i 0).val < 15
  · unfold numbers
    rw [concatenate_pair_apply_left (s₁ := S15) (s₂ := S1) (0 : Fin S16.rank) _ _ _ i rfl (fun | 0 => ⟨(i 0).val, h⟩ : S15.Idx) (fun | 0 => rfl), spaced_apply]
  · have h15 : (i 0).val = 15 := by omega
    unfold numbers
    rw [concatenate_pair_apply_right (s₁ := S15) (s₂ := S1) (0 : Fin S16.rank) _ _ _ i rfl rfl (fun | 0 => ⟨0, Nat.one_pos⟩ : S1.Idx)
      (fun | 0, hb => absurd rfl hb) (by show 0 + 15 = (i 0).val; omega), h15]
    show (((63#32 : BitVec 32).toInt : ℝ) : EReal) = _
    rw [show (63#32 : BitVec 32).toInt = 63 from rfl]
    norm_num

/-- The frame numbers are `⌊21 k / 5⌋`. -/
theorem frameNo_apply (i : S16.Idx) : frameNo i = BitVec.ofNat 32 (21 * (i 0).val / 5) := by
  have hi : (i 0).val < 16 := (i 0).isLt
  have hw : fptosi 32 numbers i = BitVec.ofNat 32 (21 * (i 0).val / 5) := by
    show Ideal.fptosi 32 (numbers i) = _
    rw [numbers_apply, fptosi_spaced hi]
  have hs : cmpi .slt (fptosi 32 numbers) (broadcastInDim S16 ![] bcast_S_S16 (constantI S_ 32 0#32)) i = 0#1 := by
    show IntOp.cmpi .slt (fptosi 32 numbers i) 0#32 = 0#1
    rw [hw]
    show BitVec.ofBool (BitVec.slt _ _) = 0#1
    rw [BitVec.slt_eq_decide, toInt_word (by omega)]
    have : ¬ (((21 * (i 0).val / 5 : ℕ) : ℤ) < (0#32 : BitVec 32).toInt) := by
      rw [show (0#32 : BitVec 32).toInt = 0 from rfl]; omega
    rw [decide_eq_false this]; rfl
  unfold frameNo select
  rw [hs, hw]
  rfl

end Cert.Proof.Ref

end
-- ==== Proof.Reference.lean ====
/-
  What the reference computes. It takes the frames at the frame numbers, and puts a not-a-number where a frame number is
  below 0 or above 63; none is, so the slow result is the picked frames. `run` says so of every run of the reference, with
  its argument unchanged; it declares no semaphore.
-/
module

public import proofs.«01_k».proof.Proof.Positions
public import proofs.«01_k».proof.Proof.Frames
public import proofs.«01_k».proof.Proof.Gen.ReferenceIdeal.Run
public import Idealize.ShloMosaic.Lib.ReduceAll
public import Idealize.ShloMosaic.Lib.Quiescent

@[expose] public section

noncomputable section

namespace Cert.Proof.Ref

open Cert.ReferenceIdeal Cert.ReferenceIdeal.Gen
open Idealize.ShloMosaic Idealize.SL.Sem

/-- The frame numbers as a column. -/
def frameCol : IVec S16x1 32 := broadcastInDim S16x1 ![0] bcast_S16_S16x1_0 frameNo

/-- Which frame numbers are from 0 to 63. -/
def inFrames : IVec S16 1 :=
  Host.reduce IntOp.andi (andi (cmpi .sge frameCol (broadcastInDim S16x1 ![] bcast_S_S16x1 (constantI S_ 32 0#32)))
    (cmpi .sle frameCol (broadcastInDim S16x1 ![0, 1] bcast_S1x1_S16x1_0_1 (broadcastInDim S1x1 ![1] bcast_S1_S1x1_1 (constantI S1 32 63#32)))))
    (constantI S_ 1 1#1) reducesTo_S16x1_S16_d1 h_S_

/-- The frames taken at the frame numbers. -/
def taken (x : FVec Ideal S3x64x384x384 .f32) : FVec Ideal S3x16x384x384 .f32 :=
  select (broadcastInDim S3x16x384x384 ![1] bcast_S16_S3x16x384x384_1 inFrames)
    (Host.gather gather_S3x64x384x384_S16x1_S3x16x384x384_023_1_n_n_1_1_31384384 x frameCol)
    (broadcastInDim S3x16x384x384 ![] bcast_S_S3x16x384x384 (constant S_ .f32 0x7FC00000#32))

/-- The column's entry. -/
theorem frameCol_apply (i : S16x1.Idx) : frameCol i = BitVec.ofNat 32 (21 * (i 0).val / 5) := by
  unfold frameCol
  rw [broadcastInDim_apply _ _ _ i (fun | 0 => ⟨(i 0).val, (i 0).isLt⟩ : S16.Idx) (fun | 0 => rfl), frameNo_apply]

/-- A number below 64 is from 0 to 63 as a signed word. -/
theorem word_inFrames : ∀ n : Fin 64,
    IntOp.andi (IntOp.cmpi .sge (BitVec.ofNat 32 n.val) 0#32) (IntOp.cmpi .sle (BitVec.ofNat 32 n.val) 63#32) = 1#1 := by decide

/-- Every frame number is a frame's. -/
theorem inFrames_apply (k : S16.Idx) : inFrames k = 1#1 := by
  refine Host.reduce_andi_one _ _ _ _ k rfl fun i => ?_
  have hi : (i 0).val < 16 := (i 0).isLt
  show IntOp.andi (IntOp.cmpi .sge (frameCol i) 0#32) (IntOp.cmpi .sle (frameCol i) 63#32) = 1#1
  rw [frameCol_apply]
  exact word_inFrames ⟨21 * (i 0).val / 5, by omega⟩

/-- The gather's dimension numbers: axis 1 of the frames is taken at, the others are read whole. -/
abbrev dims : GatherDims S3x64x384x384 S16x1 S3x16x384x384 := gather_S3x64x384x384_S16x1_S3x16x384x384_023_1_n_n_1_1_31384384

/-- Off axis 1 the gather reads the result's own coordinate. -/
theorem gather_axis (j : S3x16x384x384.Idx) (a : Fin 4) (ha : a ≠ 1) :
    GatherDims.start dims j frameCol a + GatherDims.batchCoord dims j a + GatherDims.offCoord dims j a = (j a).val := by
  have hs : a ∉ ([1] : List (Fin 4)) := by simpa using ha
  have hk : a ∈ GatherDims.sKept dims := (GatherDims.mem_sKept _ _).mpr ⟨hs, List.not_mem_nil⟩
  rw [GatherDims.batchCoord_eq_zero _ _ _ List.not_mem_nil]
  unfold GatherDims.start GatherDims.offCoord
  rw [dif_neg (show a ∉ GatherDims.startIndexMap dims from hs), dif_pos hk, Nat.add_zero, Nat.zero_add]
  revert ha hs hk
  match a with
  | 0 => intros; rfl
  | 1 => intro h; exact absurd rfl h
  | 2 => intros; rfl
  | 3 => intros; rfl

/-- On axis 1 it reads at the frame number. -/
theorem gather_axis_one (j : S3x16x384x384.Idx) :
    GatherDims.start dims j frameCol 1 + GatherDims.batchCoord dims j 1 + GatherDims.offCoord dims j 1 = 21 * (j 1).val / 5 := by
  have hj : (j 1).val < 16 := (j 1).isLt
  have h1 : (1 : Fin 4) ∈ ([1] : List (Fin 4)) := List.mem_singleton.mpr rfl
  rw [GatherDims.batchCoord_eq_zero _ _ _ List.not_mem_nil,
    GatherDims.offCoord_eq_zero _ _ _ (fun h => ((GatherDims.mem_sKept _ _).mp h).1 h1)]
  unfold GatherDims.start
  rw [dif_pos (show (1 : Fin 4) ∈ GatherDims.startIndexMap dims from h1), frameCol_apply,
    show (GatherDims.siIdx dims j ⟨(GatherDims.startIndexMap dims).idxOf (1 : Fin 4), List.idxOf_lt_length_iff.2 h1⟩ 0).val = (j 1).val from rfl,
    toInt_word (show 21 * (j 1).val / 5 < 64 by omega)]
  show min (21 * (j 1).val / 5) 63 + 0 + 0 = _
  omega

/-- The frames gathered at the frame numbers are the picked frames. -/
theorem gather_apply (x : FVec Ideal S3x64x384x384 .f32) (j : S3x16x384x384.Idx) :
    Host.gather dims x frameCol j = pickFrames x j := by
  refine congrArg x (funext fun a => Fin.ext ?_)
  match a with
  | 0 => exact gather_axis j 0 (by decide)
  | 1 => exact gather_axis_one j
  | 2 => exact gather_axis j 2 (by decide)
  | 3 => exact gather_axis j 3 (by decide)

/-- The reference's slow result is the picked frames. -/
theorem taken_eq (x : FVec Ideal S3x64x384x384 .f32) : taken x = pickFrames x := by
  funext j
  rw [← gather_apply]
  have hm : broadcastInDim S3x16x384x384 ![1] bcast_S16_S3x16x384x384_1 inFrames j = 1#1 := inFrames_apply _
  unfold taken select
  rw [hm]
  rfl

/-! ## The run -/

variable (m : (ℓ : Loc nD τ sig) → Buf (Elt Ideal) ℓ) (ρ : Dev nD → PrngReg)

/-- The argument of a device. -/
abbrev arg (c : Dev nD) : FVec Ideal S3x64x384x384 .f32 := m ((c.tc : Thread nD τ).loc main_arg0)

/-- The run's own term for the result is the frames taken at the frame numbers. -/
theorem res_eq (c : Dev nD) : Value.res_main_v2 m c = taken (arg m c) := rfl

/-- Every run of the reference leaves the picked frames in its result, its argument unchanged and every semaphore at zero. -/
theorem run : θ_run (defs (F := Ideal)) (onTc (τ := τ) (main (F := Ideal))) ⟨m, fun _ => 0, ρ⟩ fun r =>
    (∀ c : Dev nD, r.2.mem ((c.tc : Thread nD τ).loc main_v2) = pickFrames (arg m c)
      ∧ r.2.mem ((c.tc : Thread nD τ).loc main_arg0) = m ((c.tc : Thread nD τ).loc main_arg0)) ∧ r.2.sem = fun _ => 0 :=
  (θ_run defs _ _).mono (fun r h => ⟨fun c => ⟨(h c).1.trans ((res_eq m c).trans (taken_eq (arg m c))), (h c).2.1⟩, sem_eq_zero_of_no_sems (by decide) r.2⟩)
    (Value.run m ρ)

end Cert.Proof.Ref

end
-- ==== Proof.lean ====
/- The claim for kernel 01_k, put together: the kernel's run (Launch), the reference's run
   (Reference), and the fact that picking rows of the flat table is picking frames (Frames). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Launch
public import proofs.«01_k».proof.Proof.Reference

@[expose] public section

noncomputable section

namespace Cert.Proof

open Idealize.ShloMosaic Idealize.SL.Sem Cert.KernelIdeal

/-- Over floating-point numbers the kernel always ends, leaves the frames as they were and every
    semaphore at zero. -/
theorem frame_kernel : Cert.quiescent_Kernel := fun m ρ _ =>
  (θ_run Cert.Kernel.defs _ _).mono (fun _ h => ⟨fun c => (h.1 c).1, h.2⟩)
    (run_main (F := Bits) m ρ)

/-- The same of the kernel over exact numbers. -/
theorem frame_ideal : Cert.quiescent_KernelIdeal := fun m ρ _ =>
  (θ_run Cert.KernelIdeal.defs _ _).mono (fun _ h => ⟨fun c => (h.1 c).1, h.2⟩)
    (run_main (F := Ideal) m ρ)

/-- The reference always ends, leaves the frames as they were and every semaphore at zero. -/
theorem frame_reference : Cert.quiescent_ReferenceIdeal := fun m ρ _ =>
  (θ_run Cert.ReferenceIdeal.defs _ _).mono (fun _ h => ⟨fun c => (h.1 c).2, h.2⟩) (Ref.run m ρ)

/-- Kernel and reference return the same two results: the sixteen picked frames, and the frames
    themselves. -/
theorem equation : Cert.algebraic_KernelIdeal_ReferenceIdeal := by
  intro m ρ m' ρ' _ hagree
  refine ⟨fun c => pickFrames (A := Elt Ideal .f32) (m (aLoc c)), fun c => m (aLoc c), ?_, ?_⟩
  · exact (θ_run Cert.KernelIdeal.defs _ _).mono
      (fun _ h c => ⟨(h.1 c).2.trans (frames_of_rows _), (h.1 c).1, (h.1 c).1⟩)
      (run_main (F := Ideal) m ρ)
  · exact (θ_run Cert.ReferenceIdeal.defs _ _).mono
      (fun _ h c => ⟨(h.1 c).1.trans (congrArg pickFrames (hagree c)),
        (h.1 c).2.trans (hagree c), (h.1 c).2⟩)
      (Ref.run m' ρ')

/-- All five claims. -/
theorem claim : Cert.Claim :=
  ⟨Cert.Kernel.Gen.facts, Cert.KernelIdeal.Gen.facts, Cert.ReferenceIdeal.Gen.facts,
    frame_kernel, frame_ideal, frame_reference, trivial, equation⟩

end Cert.Proof

end
